-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64 : Shape := ⟨2, ![16384, 64]⟩
abbrev S6x64x1024 : Shape := ⟨3, ![6, 64, 1024]⟩
abbrev S6x16384x1024 : Shape := ⟨3, ![6, 16384, 1024]⟩
abbrev S512x64 : Shape := ⟨2, ![512, 64]⟩
abbrev S1x64x1024 : Shape := ⟨3, ![1, 64, 1024]⟩
abbrev S1x512x1024 : Shape := ⟨3, ![1, 512, 1024]⟩
abbrev S64x1024 : Shape := ⟨2, ![64, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S6x64x1024, .f32⟩
  | .hbm, ⟨2, _⟩ => ⟨S6x16384x1024, .f32⟩
  | .local _ .vmem, ⟨0, _⟩ => ⟨S512x64, .f32⟩
  | .local _ .vmem, ⟨1, _⟩ => ⟨S512x64, .f32⟩
  | .local _ .vmem, ⟨2, _⟩ => ⟨S1x64x1024, .f32⟩
  | .local _ .vmem, ⟨3, _⟩ => ⟨S1x64x1024, .f32⟩
  | .local _ .vmem, ⟨4, _⟩ => ⟨S1x512x1024, .f32⟩
  | .local _ .vmem, ⟨5, _⟩ => ⟨S1x512x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S16384x64 : Shape := ⟨2, ![16384, 64]⟩
abbrev S6x64x1024 : Shape := ⟨3, ![6, 64, 1024]⟩
abbrev S6x1024x16384 : Shape := ⟨3, ![6, 1024, 16384]⟩
abbrev S6x16384x1024 : Shape := ⟨3, ![6, 16384, 1024]⟩
abbrev S6x16384x21 : Shape := ⟨3, ![6, 16384, 21]⟩
abbrev S6x16384x1 : Shape := ⟨3, ![6, 16384, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S6x64x1024, .f32⟩
  | .hbm, ⟨2, _⟩ => ⟨S6x1024x16384, .f32⟩
  | .hbm, ⟨3, _⟩ => ⟨S6x16384x1024, .f32⟩
  | .hbm, ⟨4, _⟩ => ⟨S6x16384x21, .f32⟩
  | .hbm, ⟨5, _⟩ => ⟨S6x16384x21, .i32⟩
  | .hbm, ⟨6, _⟩ => ⟨S6x16384x1, .f32⟩
  | .hbm, ⟨7, _⟩ => ⟨S6x16384x1024, .f32⟩
  | .hbm, ⟨8, _⟩ => ⟨S6x16384x1024, .i1⟩
  | .hbm, ⟨9, _⟩ => ⟨S_, .f32⟩
  | .hbm, ⟨10, _⟩ => ⟨S_, .f32⟩
  | .hbm, ⟨11, _⟩ => ⟨S6x16384x1024, .f32⟩
  | .hbm, ⟨12, _⟩ => ⟨S6x16384x1024, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

noncomputable section

/-! # What one run of the kernel's body computes, as whole-vector functions

`Top4` is the state of the fast selection: per row and lane the four largest of the lane's eight
overlaps, in descending order, of which `Top4.pop` drops the front wherever it reaches the row's
maximum. `Peel` is the state of the exact recovery: what is left of the overlaps, how many are still to
be taken, and the threshold. -/

namespace Cert.Proof

open Idealize.ShloMosaic Cert.KernelIdeal Cert.KernelIdeal.Gen

variable {F : FTy → Type} [FloatOps F] [Named F]

/-- The kernel's stand-in for `∞`. -/
def big : F .f32 := Named.named κ "big" 0x7F61B1E6#32

/-- What an entry is replaced by once it has been taken: `0 - big`. -/
def low : F .f32 := Scalar.subf (Scalar.ofBits .f32 0x00000000#32) big

/-- The overlaps of one block: the product of its rows with its matrix. -/
def overlap (v0 : Vec F S512x64 .f32) (v1 : Vec F S1x64x1024 .f32) : FVec F S512x1024 .f32 :=
  matmul dot_S512x64_S64x1024_S512x1024_1_0_0_1_n_n none v0
    (shapeCast S64x1024 v1 shapeCasts_S1x64x1024_S64x1024) (constant S512x1024 .f32 0x00000000#32)

/-! ## The fast selection -/

/-- Each row's maximum over its 128 lanes. -/
def laneMax (c : FVec F S512x128 .f32) : FVec F S512x1 .f32 :=
  shapeCast S512x1
    (multiReduction .maximumf [1] S512 c 0xFF800000#32 reduces_S512x128_S512 (.inl rfl) rfl)
    shapeCasts_S512_S512x1

/-- The lanes that reach their row's maximum. -/
def hit (c : FVec F S512x128 .f32) : IVec S512x128 1 :=
  cmpf .oge c (broadcastTo S512x128 (laneMax c) broadcasts_S512x1_S512x128)

/-- The four candidates of every lane. -/
@[ext] structure Top4 (F : FTy → Type) where
  c1 : FVec F S512x128 .f32
  c2 : FVec F S512x128 .f32
  c3 : FVec F S512x128 .f32
  c4 : FVec F S512x128 .f32

/-- Drop the front candidate of every lane that reaches its row's maximum. -/
def Top4.pop (s : Top4 F) : Top4 F where
  c1 := select (hit s.c1) s.c2 s.c1
  c2 := select (hit s.c1) s.c3 s.c2
  c3 := select (hit s.c1) s.c4 s.c3
  c4 := select (hit s.c1) (broadcast S512x128 low) s.c4

/-- The four largest of a pair of pairs, in descending order: each pair sorted, then merged. -/
def quad (a b c d : FVec F S512x128 .f32) : Top4 F where
  c1 := maximumf (maximumf a b) (maximumf c d)
  c2 := maximumf (minimumf (maximumf a b) (maximumf c d)) (maximumf (minimumf a b) (minimumf c d))
  c3 := minimumf (minimumf (maximumf a b) (maximumf c d)) (maximumf (minimumf a b) (minimumf c d))
  c4 := minimumf (minimumf a b) (minimumf c d)

/-- The four largest of two descending quadruples, in descending order. -/
def merge (a b : Top4 F) : Top4 F where
  c1 := maximumf (maximumf (maximumf a.c1 b.c4) (maximumf a.c3 b.c2))
    (maximumf (maximumf a.c2 b.c3) (maximumf a.c4 b.c1))
  c2 := minimumf (maximumf (maximumf a.c1 b.c4) (maximumf a.c3 b.c2))
    (maximumf (maximumf a.c2 b.c3) (maximumf a.c4 b.c1))
  c3 := maximumf (minimumf (maximumf a.c1 b.c4) (maximumf a.c3 b.c2))
    (minimumf (maximumf a.c2 b.c3) (maximumf a.c4 b.c1))
  c4 := minimumf (minimumf (maximumf a.c1 b.c4) (maximumf a.c3 b.c2))
    (minimumf (maximumf a.c2 b.c3) (maximumf a.c4 b.c1))

/-- The candidates the selection starts from: of the eight overlaps of a lane, 128 apart. -/
def top4 (ov : FVec F S512x1024 .f32) : Top4 F :=
  merge
    (quad (extractStridedSlice S512x128 ![0, 0] ov slices_S512x1024_o0_0_S512x128)
      (extractStridedSlice S512x128 ![0, 128] ov slices_S512x1024_o0_128_S512x128)
      (extractStridedSlice S512x128 ![0, 256] ov slices_S512x1024_o0_256_S512x128)
      (extractStridedSlice S512x128 ![0, 384] ov slices_S512x1024_o0_384_S512x128))
    (quad (extractStridedSlice S512x128 ![0, 512] ov slices_S512x1024_o0_512_S512x128)
      (extractStridedSlice S512x128 ![0, 640] ov slices_S512x1024_o0_640_S512x128)
      (extractStridedSlice S512x128 ![0, 768] ov slices_S512x1024_o0_768_S512x128)
      (extractStridedSlice S512x128 ![0, 896] ov slices_S512x1024_o0_896_S512x128))

/-- The entries at or above a threshold per row. -/
def above (ov : FVec F S512x1024 .f32) (t : FVec F S512x1 .f32) : IVec S512x1024 1 :=
  cmpf .oge ov (broadcastTo S512x1024 t broadcasts_S512x1_S512x1024)

/-- The fast selection's mask: the entries at or above the row maximum that twenty drops leave. -/
def keep (ov : FVec F S512x1024 .f32) : IVec S512x1024 1 :=
  above ov (laneMax (Top4.pop^[20] (top4 ov)).c1)

/-- The block stored under a mask: the overlaps where it holds, zero elsewhere. -/
def masked (ov : FVec F S512x1024 .f32) (k : IVec S512x1024 1) : FVec F S1x512x1024 .f32 :=
  shapeCast S1x512x1024 (select k ov (broadcast S512x1024 (Scalar.ofBits .f32 0x00000000#32)))
    shapeCasts_S512x1024_S1x512x1024

/-! ## The exact recovery -/

/-- Each row's maximum. -/
def rowMax (v : FVec F S512x1024 .f32) : FVec F S512x1 .f32 :=
  shapeCast S512x1
    (multiReduction .maximumf [1] S512 v 0xFF800000#32 reduces_S512x1024_S512 (.inl rfl) rfl)
    shapeCasts_S512_S512x1

/-- How many entries of each row a mask holds at. -/
def rowCount (k : IVec S512x1024 1) : FVec F S512x1 .f32 :=
  shapeCast S512x1
    (multiReduction .add [1] S512
      (select k (broadcast S512x1024 (Scalar.ofBits .f32 0x3F800000#32 : F .f32))
        (broadcast S512x1024 (Scalar.ofBits .f32 0x00000000#32)))
      0x00000000#32 reduces_S512x1024_S512 (.inl rfl) rfl)
    shapeCasts_S512_S512x1

/-- The state of the recovery. -/
@[ext] structure Peel (F : FTy → Type) where
  vals : FVec F S512x1024 .f32
  kk : FVec F S512x1 .f32
  th : FVec F S512x1 .f32

/-- The entries that reach their row's maximum. -/
def Peel.top (s : Peel F) : IVec S512x1024 1 := above s.vals (rowMax s.vals)

/-- The rows whose threshold is the present maximum: something is still to be taken, and no more than
    the entries that reach it. -/
def Peel.take (s : Peel F) : IVec S512x1 1 :=
  andi (cmpf .ogt s.kk (broadcast S512x1 (Scalar.ofBits .f32 0x00000000#32)))
    (cmpf .ole s.kk (rowCount s.top))

/-- Take each row's maximum off. -/
def Peel.step (s : Peel F) : Peel F where
  vals := select s.top (broadcast S512x1024 low) s.vals
  kk := subf s.kk (rowCount s.top)
  th := select s.take (rowMax s.vals) s.th

/-- The state the recovery starts from: every overlap, 21 to be taken, no threshold. -/
def peel (ov : FVec F S512x1024 .f32) : Peel F where
  vals := ov
  kk := broadcast S512x1 (Scalar.ofBits .f32 0x41A80000#32)
  th := broadcast S512x1 low

/-- The recovery's mask. -/
def exact (ov : FVec F S512x1024 .f32) : IVec S512x1024 1 :=
  above ov (Peel.step^[21] (peel ov)).th

/-! ## The two together -/

/-- The largest of the rows' counts under a mask. -/
def mostKept (k : IVec S512x1024 1) : F .f32 :=
  extractAt ![0, 0, 0]
    (shapeCast S1x1x1
      (multiReduction .maximumf [1, 2] S1
        (shapeCast S1x512x1 (rowCount (F := F) k) shapeCasts_S512x1_S1x512x1)
        0xFF800000#32 reduces_S1x512x1_S1 (.inl rfl) rfl)
      shapeCasts_S1_S1x1x1)
    inpos_S1x1x1_p0_0_0

/-- Whether the recovery runs: the largest count is not 21. -/
def bad (ov : FVec F S512x1024 .f32) : Prop :=
  Scalar.cmpi .ne
    (Scalar.extui (Scalar.cmpf .one (mostKept (F := F) (keep ov)) (Scalar.ofBits .f32 0x41A80000#32)) :
      BitVec 32) 0#32 = 1#1

instance (ov : FVec F S512x1024 .f32) : Decidable (bad ov) := inferInstanceAs (Decidable (_ = _))

/-- The block the body leaves in its result. -/
def block (ov : FVec F S512x1024 .f32) : FVec F S1x512x1024 .f32 :=
  if bad ov then masked ov (exact ov) else masked ov (keep ov)

end Cert.Proof
-- ==== Proof.Selection.lean ====
module

public import proofs.«01_k».proof.Proof.Body

@[expose] public section

set_option maxRecDepth 65536

noncomputable section

/-! # The kernel's named values are the states of the two selections

For each stretch of the body, what it hands on is a component of the state some steps later. -/

namespace Cert.Proof

open Idealize.ShloMosaic Cert.KernelIdeal Cert.KernelIdeal.Gen

variable {F : FTy → Type} [FloatOps F] [Named F]

section Fast

variable (v0 : Vec F S512x64 .f32) (v1 : Vec F S1x64x1024 .f32) (s : Top4 F)

theorem pay111 : k0_pay111 v0 v1 = overlap v0 v1 := rfl
theorem pay143 : k0_pay143 v0 v1 = (top4 (overlap v0 v1)).c4 := rfl
theorem pay144 : k0_pay144 v0 v1 = hit (top4 (overlap v0 v1)).c1 := rfl
theorem pay145 : k0_pay145 v0 v1 = (top4 (overlap v0 v1)).pop.c1 := rfl
theorem pay146 : k0_pay146 v0 v1 = (top4 (overlap v0 v1)).pop.c2 := rfl
theorem pay147 : k0_pay147 v0 v1 = (top4 (overlap v0 v1)).pop.c3 := rfl

/-- Four, five and six drops. -/
def Top4.pop4 : Top4 F := s.pop.pop.pop.pop
@[inherit_doc Top4.pop4] def Top4.pop5 : Top4 F := s.pop.pop.pop.pop.pop
@[inherit_doc Top4.pop4] def Top4.pop6 : Top4 F := s.pop.pop.pop.pop.pop.pop

theorem pay165 : k0_pay165 s.c4 (hit s.c1) s.pop.c1 s.pop.c2 s.pop.c3 = s.pop5.c1 := rfl
theorem pay166 : k0_pay166 s.c4 (hit s.c1) s.pop.c1 s.pop.c2 s.pop.c3 = s.pop5.c2 := rfl
theorem pay167 : k0_pay167 s.c4 (hit s.c1) s.pop.c1 s.pop.c2 s.pop.c3 = s.pop5.c3 := rfl
theorem pay168 : k0_pay168 s.c4 (hit s.c1) s.pop.c1 s.pop.c2 s.pop.c3 = s.pop5.c4 := rfl
theorem pay169 : k0_pay169 s.c4 (hit s.c1) s.pop.c1 s.pop.c2 s.pop.c3 = laneMax s.pop5.c1 := rfl

theorem pay189 : k0_pay189 s.c1 s.c2 s.c3 s.c4 (laneMax s.c1) = s.pop4.c4 := rfl
theorem pay190 : k0_pay190 s.c1 s.c2 s.c3 s.c4 (laneMax s.c1) = hit s.pop4.c1 := rfl
theorem pay191 : k0_pay191 s.c1 s.c2 s.c3 s.c4 (laneMax s.c1) = s.pop4.pop.c1 := rfl
theorem pay192 : k0_pay192 s.c1 s.c2 s.c3 s.c4 (laneMax s.c1) = s.pop4.pop.c2 := rfl
theorem pay193 : k0_pay193 s.c1 s.c2 s.c3 s.c4 (laneMax s.c1) = s.pop4.pop.c3 := rfl
theorem pay194 : k0_pay194 (F := F) = low := rfl

theorem pay213 : k0_pay213 s.c4 (hit s.c1) s.pop.c1 s.pop.c2 s.pop.c3 low = s.pop5.c2 := rfl
theorem pay214 : k0_pay214 s.c4 (hit s.c1) s.pop.c1 s.pop.c2 s.pop.c3 low = s.pop5.c3 := rfl
theorem pay215 : k0_pay215 s.c4 (hit s.c1) s.pop.c1 s.pop.c2 s.pop.c3 low = s.pop5.c4 := rfl
theorem pay216 : k0_pay216 s.c4 (hit s.c1) s.pop.c1 s.pop.c2 s.pop.c3 low = hit s.pop5.c1 := rfl
theorem pay217 : k0_pay217 s.c4 (hit s.c1) s.pop.c1 s.pop.c2 s.pop.c3 low = s.pop5.pop.c1 := rfl

theorem pay218 (ov : FVec F S512x1024 .f32) :
    k0_pay218 ov s.c2 s.c3 s.c4 (hit s.c1) s.pop.c1 = above ov (laneMax s.pop6.c1) := rfl

/-- Five, four, five and six drops are the twenty. -/
theorem keep_eq (ov : FVec F S512x1024 .f32) :
    above ov (laneMax (top4 ov).pop5.pop4.pop5.pop6.c1) = keep ov := rfl

/-- The fast selection's store, and the largest count. -/
theorem pay1 (ov : FVec F S512x1024 .f32) (k : IVec S512x1024 1) :
    k0_pay1 ov k (Scalar.ofBits .f32 0x00000000#32) = masked ov k := rfl
theorem pay2 (k : IVec S512x1024 1) : k0_pay2 (F := F) k = mostKept k := rfl

end Fast

section Recovery

variable (ov : FVec F S512x1024 .f32) (s : Peel F)

/-- Two and three steps. -/
def Peel.step2 : Peel F := s.step.step
@[inherit_doc Peel.step2] def Peel.step3 : Peel F := s.step.step.step

theorem pay13 : k0_pay13 ov big = (peel ov).step2.th := rfl
theorem pay14 : k0_pay14 ov big = (peel ov).step2.kk := rfl
theorem pay15 : k0_pay15 ov big = (peel ov).step2.vals := rfl
theorem pay16 : k0_pay16 ov big = rowMax (peel ov).step2.vals := rfl
theorem pay17 : k0_pay17 ov big = (peel ov).step2.top := rfl

theorem pay24 : k0_pay24 big s.kk s.vals s.top (Scalar.ofBits .f32 0x3F800000#32) (Scalar.ofBits .f32 0x00000000#32)
    = s.step2.kk := rfl
theorem pay25 : k0_pay25 big s.vals s.top = s.step2.vals := rfl
theorem pay27 : k0_pay27 big s.vals s.top = s.step2.top := rfl
theorem pay28 : k0_pay28 big s.vals s.top = rowCount s.step2.top := rfl
theorem pay29 : k0_pay29 big s.th s.kk s.vals (rowMax s.vals) s.top (Scalar.ofBits .f32 0x3F800000#32)
    (Scalar.ofBits .f32 0x00000000#32) = s.step2.step.th := rfl

theorem pay40 : k0_pay40 big s.kk s.vals s.top (rowCount s.top) s.step.th = s.step3.th := rfl
theorem pay41 : k0_pay41 big s.kk s.vals s.top (rowCount s.top) = s.step3.kk := rfl
theorem pay42 : k0_pay42 big s.vals s.top = s.step3.vals := rfl
theorem pay43 : k0_pay43 big s.vals s.top = rowMax s.step3.vals := rfl
theorem pay44 : k0_pay44 big s.vals s.top = s.step3.top := rfl

theorem pay51 : k0_pay51 big s.kk s.vals s.top (Scalar.ofBits .f32 0x3F800000#32) (Scalar.ofBits .f32 0x00000000#32)
    = s.step2.kk := rfl
theorem pay52 : k0_pay52 big s.vals s.top = s.step2.vals := rfl
theorem pay54 : k0_pay54 big s.vals s.top = s.step2.top := rfl
theorem pay55 : k0_pay55 big s.vals s.top = rowCount s.step2.top := rfl
theorem pay56 : k0_pay56 big s.th s.kk s.vals (rowMax s.vals) s.top (Scalar.ofBits .f32 0x3F800000#32)
    (Scalar.ofBits .f32 0x00000000#32) = s.step2.step.th := rfl

theorem pay67 : k0_pay67 big s.kk s.vals s.top (rowCount s.top) s.step.th = s.step3.th := rfl
theorem pay68 : k0_pay68 big s.kk s.vals s.top (rowCount s.top) = s.step3.kk := rfl
theorem pay69 : k0_pay69 big s.vals s.top = s.step3.vals := rfl
theorem pay70 : k0_pay70 big s.vals s.top = rowMax s.step3.vals := rfl
theorem pay71 : k0_pay71 big s.vals s.top = s.step3.top := rfl

theorem pay78 : k0_pay78 big s.kk s.vals s.top (Scalar.ofBits .f32 0x3F800000#32) (Scalar.ofBits .f32 0x00000000#32)
    = s.step2.kk := rfl
theorem pay79 : k0_pay79 big s.vals s.top = s.step2.vals := rfl
theorem pay81 : k0_pay81 big s.vals s.top = s.step2.top := rfl
theorem pay82 : k0_pay82 big s.vals s.top = rowCount s.step2.top := rfl
theorem pay83 : k0_pay83 big s.th s.kk s.vals (rowMax s.vals) s.top (Scalar.ofBits .f32 0x3F800000#32)
    (Scalar.ofBits .f32 0x00000000#32) = s.step2.step.th := rfl

theorem pay94 : k0_pay94 big s.kk s.vals s.top (rowCount s.top) s.step.th = s.step3.th := rfl
theorem pay95 : k0_pay95 big s.kk s.vals s.top (rowCount s.top) = s.step3.kk := rfl
theorem pay96 : k0_pay96 big s.vals s.top = s.step3.vals := rfl
theorem pay97 : k0_pay97 big s.vals s.top = rowMax s.step3.vals := rfl
theorem pay98 : k0_pay98 big s.vals s.top = s.step3.top := rfl

theorem pay105 : k0_pay105 big s.kk s.vals s.top (Scalar.ofBits .f32 0x3F800000#32) (Scalar.ofBits .f32 0x00000000#32)
    = s.step2.kk := rfl
theorem pay106 : k0_pay106 big s.vals s.top = s.step2.vals := rfl
theorem pay108 : k0_pay108 big s.vals s.top = s.step2.top := rfl
theorem pay109 : k0_pay109 big s.vals s.top = rowCount s.step2.top := rfl
theorem pay110 : k0_pay110 big s.th s.kk s.vals (rowMax s.vals) s.top (Scalar.ofBits .f32 0x3F800000#32)
    (Scalar.ofBits .f32 0x00000000#32) = s.step2.step.th := rfl

theorem pay3 : k0_pay3 ov s.kk s.vals s.top (rowCount s.top) s.step.th =
    masked ov (above ov s.step2.th) := rfl

/-- The stretches' steps are the twenty-one. -/
theorem exact_eq : above ov
    (peel ov).step2.step2.step3.step2.step3.step2.step3.step2.step2.th = exact ov := rfl

end Recovery

end Cert.Proof
-- ==== Proof.IdealRun.lean ====
module

public import proofs.«01_k».proof.Proof.Gen.KernelIdeal.Frame
public import proofs.«01_k».proof.Proof.Selection
public import Idealize.ShloMosaic.Lib.VecWindow
public import Idealize.ShloMosaic.Lib.Claim

@[expose] public section

set_option maxRecDepth 16384

noncomputable section

/-! # The idealized kernel's run

The body, at every grid point, leaves `block` of its two blocks' product in the result's staging buffer;
so the launch terminates, leaves its arguments as they were and every counter at zero, and the result is
the array put together from those blocks. -/

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The whole of each staging buffer, as the body addresses it. -/
abbrev wholeX : Rect S512x64 := Rect.unit (s := S512x64) ![0, 0] S512x64.size inb_S512x64_S512x64_0_0
@[inherit_doc wholeX] abbrev wholeP : Rect S1x64x1024 :=
  Rect.unit (s := S1x64x1024) ![0, 0, 0] S1x64x1024.size inb_S1x64x1024_S1x64x1024_0_0_0
@[inherit_doc wholeX] abbrev wholeO : Rect S1x512x1024 :=
  Rect.unit (s := S1x512x1024) ![0, 0, 0] S1x512x1024.size inb_S1x512x1024_S1x512x1024_0_0_0

/-- The body as its memory operations over the two selections. -/
def body (arg2 : Memref sig .tc .vmem S512x64 .f32) (arg3 : Memref sig .tc .vmem S1x64x1024 .f32)
    (arg4 : Memref sig .tc .vmem S1x512x1024 .f32) : Prog (TpuEff nD τ sig (Elt F) Λ₀ .tc) PUnit := do
  let v0 : Vec F S512x64 .f32 ← Prog.lift
    (.load arg2 wholeX.toLoadRect (View.loadsAt_vmem h_S512x64))
  let v1 : Vec F S1x64x1024 .f32 ← Prog.lift
    (.load arg3 wholeP.toLoadRect (View.loadsAt_vmem h_S1x64x1024))
  let _ : Vec F S1x512x1024 .f32 ← Prog.lift
    (.load arg4 wholeO.toLoadRect (View.loadsAt_vmem h_S1x512x1024))
  Prog.lift (.store arg4 wholeO (masked (overlap v0 v1) (keep (overlap v0 v1))) Finset.univ
    (View.stores_vmem_bits_univ h_S1x512x1024 rfl) (.inl rfl))
  if bad (overlap v0 v1) then do
    let _ : Vec F S1x512x1024 .f32 ← Prog.lift
      (.load arg4 wholeO.toLoadRect (View.loadsAt_vmem h_S1x512x1024))
    Prog.lift (.store arg4 wholeO (masked (overlap v0 v1) (exact (overlap v0 v1))) Finset.univ
      (View.stores_vmem_bits_univ h_S1x512x1024 rfl) (.inl rfl))
    pure ⟨⟩
  else do
    pure ⟨⟩
  pure ⟨⟩

/-- The printed body is that program. -/
theorem body_eq (i : grid0.Coords) (arg2 : Memref sig .tc .vmem S512x64 .f32) (harg2 : arg2.IsWhole)
    (arg3 : Memref sig .tc .vmem S1x64x1024 .f32) (harg3 : arg3.IsWhole)
    (arg4 : Memref sig .tc .vmem S1x512x1024 .f32) (harg4 : arg4.IsWhole) :
    cc0__recruit_body (F := F) i arg2 harg2 arg3 harg3 arg4 harg4 = body arg2 arg3 arg4 := by
  have hbig : (Named.named κ "big" 0x7F61B1E6#32 : F .f32) = big := rfl
  simp only [cc0__recruit_body_eq_skeleton]; unfold cc0__recruit_body_skel
  simp only [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel
    k0_part7_skel k0_part8_skel k0_part9_skel k0_part10_skel k0_part11_skel k0_part12_skel k0_part13_skel
  simp only [pure_bind, bind_assoc, hbig]
  simp only [pay111, pay143, pay144, pay145, pay146, pay147, pay165, pay166, pay167, pay168, pay169,
    pay189, pay190, pay191, pay192, pay193, pay194, pay213, pay214, pay215, pay216, pay217, pay218,
    keep_eq, pay1, pay2]
  simp only [pay13, pay14, pay15, pay16, pay17, pay24, pay25, pay27, pay28, pay29, pay40, pay41, pay42,
    pay43, pay44, pay51, pay52, pay54, pay55, pay56, pay67, pay68, pay69, pay70, pay71, pay78, pay79,
    pay81, pay82, pay83, pay94, pay95, pay96, pay97, pay98, pay105, pay106, pay108, pay109, pay110,
    pay3, exact_eq]
  rfl

/-- The body's triple: from the two blocks, whatever the result's buffer holds, it leaves the blocks as
    they were and `block` of their product in the result's buffer. -/
theorem sound_kernel (c : Dev nD) (E : Set ℕ) (i : grid0.Coords)
    (arg2 : Memref sig .tc .vmem S512x64 .f32) (harg2 : arg2.IsWhole)
    (arg3 : Memref sig .tc .vmem S1x64x1024 .f32) (harg3 : arg3.IsWhole)
    (arg4 : Memref sig .tc .vmem S1x512x1024 .f32) (harg4 : arg4.IsWhole)
    (x0 : Vec F S512x64 .f32) (x1 : Vec F S1x64x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (block (overlap x0 x1))) -∗ K ⟨⟩))
      ⊢ wp frame (wpE (defs₀ (F := F)) Variants.none c none) E
          (cc0__recruit_body i arg2 harg2 arg3 harg3 arg4 harg4) K := by
  rw [body_eq]; unfold body owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.readAt_full, View.readAt_full, block]
  split
  · exact View.read_writes_full _ _ _ _ _
  · unfold sound_kernel.sl.H2_1
    rw [View.readAt_full, View.readAt_full]
    exact View.read_writes_full _ _ _ _ _

/-- The pipeline's data on a core: each input's buffer at its block, the result's at `block` of their
    product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block (overlap (iblk m c 0 t) (iblk m c 1 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by
  dsimp only [dats]
theorem after1 (c : Dev nD) (t : Fin cfg0.N) : (dats m 0 c).after 1 t = iblk m c 1 t := by
  dsimp only [dats]
theorem after2 (c : Dev nD) (t : Fin cfg0.N) :
    (dats m 0 c).after 2 t = block (overlap (iblk m c 0 t) (iblk m c 1 t)) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with at a grid point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point. -/
theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The launch's obligation on the body. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch terminates with every array as the pipeline's data says, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.IdealRun
-- ==== Proof.KernelRun.lean ====
module

public import proofs.«01_k».proof.Proof.IdealRun
public import proofs.«01_k».proof.Proof.Gen.Kernel
public import proofs.«01_k».proof.Defs

@[expose] public section

set_option maxRecDepth 65536

noncomputable section

/-! # The kernel's run

The kernel as compiled is the program with the named constant, read with the name standing for its own
literal. So what `IdealRun` shows of that program at any reading holds of the kernel. -/

namespace Cert.Proof.KernelRun

open Idealize.ShloMosaic Idealize.SL.Sem

/-- The reading under which a named constant is its own literal. -/
local instance literal : Named Bits where
  named _ _ {_} bits := FloatOps.ofBits _ bits

theorem part1 : Cert.Kernel.k0_part1 (F := Bits) = Cert.KernelIdeal.k0_part1 (F := Bits) := rfl
theorem part2 : Cert.Kernel.k0_part2 (F := Bits) = Cert.KernelIdeal.k0_part2 (F := Bits) := rfl
theorem part3 : Cert.Kernel.k0_part3 (F := Bits) = Cert.KernelIdeal.k0_part3 (F := Bits) := rfl
theorem part4 : Cert.Kernel.k0_part4 (F := Bits) = Cert.KernelIdeal.k0_part4 (F := Bits) := rfl
theorem part5 : Cert.Kernel.k0_part5 (F := Bits) = Cert.KernelIdeal.k0_part5 (F := Bits) := rfl
theorem part6 : Cert.Kernel.k0_part6 (F := Bits) = Cert.KernelIdeal.k0_part6 (F := Bits) := rfl
theorem part7 : Cert.Kernel.k0_part7 (F := Bits) = Cert.KernelIdeal.k0_part7 (F := Bits) := rfl
theorem part8 : Cert.Kernel.k0_part8 (F := Bits) = Cert.KernelIdeal.k0_part8 (F := Bits) := rfl
theorem part9 : Cert.Kernel.k0_part9 (F := Bits) = Cert.KernelIdeal.k0_part9 (F := Bits) := rfl
theorem part10 : Cert.Kernel.k0_part10 (F := Bits) = Cert.KernelIdeal.k0_part10 (F := Bits) := rfl
theorem part11 : Cert.Kernel.k0_part11 (F := Bits) = Cert.KernelIdeal.k0_part11 (F := Bits) := rfl
theorem part12 : Cert.Kernel.k0_part12 (F := Bits) = Cert.KernelIdeal.k0_part12 (F := Bits) := rfl
theorem part13 : Cert.Kernel.k0_part13 (F := Bits) = Cert.KernelIdeal.k0_part13 (F := Bits) := rfl

/-- The two bodies are one. -/
theorem body_eq :
    Cert.Kernel.cc0__recruit_body (F := Bits) = Cert.KernelIdeal.cc0__recruit_body (F := Bits) := by
  unfold Cert.Kernel.cc0__recruit_body Cert.KernelIdeal.cc0__recruit_body
  rw [part1, part2, part3, part4, part5, part6, part7, part8, part9, part10, part11, part12, part13]
  rfl

theorem defs₀_eq : Cert.Kernel.defs₀ (F := Bits) = Cert.KernelIdeal.defs₀ (F := Bits) := by
  unfold Cert.Kernel.defs₀ Cert.KernelIdeal.defs₀
  rw [body_eq]
  refine congrArg Defs.onTc (funext fun l => funext fun a => ?_)
  match l, a with
  | 0, (t, s) => rfl
  | ⟨_ + 1, h⟩, _ => exact absurd h (Nat.not_lt.2 (Nat.le_add_left _ _))

/-- So the two tables of functions are one. -/
theorem defs_eq : Cert.Kernel.defs (F := Bits) = Cert.KernelIdeal.defs (F := Bits) :=
  congrArg (Pipeline.defs Cert.Kernel.pcfgs) defs₀_eq

/-- The kernel terminates, its arguments end as they were, and every counter is zero. -/
theorem frame : Cert.quiescent_Kernel := fun m g _ => by
  have h := IdealRun.frame (F := Bits) m g
  rw [← defs_eq] at h
  exact h

end Cert.Proof.KernelRun
-- ==== Proof.Rank.lean ====
module

public import Mathlib.Data.EReal.Basic
public import Mathlib.Data.Fintype.Card
public import Mathlib.Data.Finset.Lattice.Fold
public import Mathlib.Data.Finset.Max
public import Mathlib.Order.CompleteLattice.Finset

@[expose] public section

noncomputable section

/-! # The `k`-th largest entry of a finite family of extended reals -/

namespace Cert.Proof

variable {ι : Type} [Fintype ι]

/-- How many entries are at least `t`. -/
def atLeast (v : ι → EReal) (t : EReal) : ℕ := (Finset.univ.filter fun j => t ≤ v j).card

/-- How many entries exceed `t`. -/
def exceed (v : ι → EReal) (t : EReal) : ℕ := (Finset.univ.filter fun j => t < v j).card

/-- `T` is the `k`-th largest entry, entries counted with their repetitions: at least `k` entries reach
    it and fewer than `k` exceed it. -/
def IsKth (k : ℕ) (v : ι → EReal) (T : EReal) : Prop := k ≤ atLeast v T ∧ exceed v T < k

theorem atLeast_le_exceed (v : ι → EReal) {s t : EReal} (h : s < t) : atLeast v t ≤ exceed v s :=
  Finset.card_le_card fun j hj => by
    simp only [Finset.mem_filter, Finset.mem_univ, true_and] at hj ⊢
    exact lt_of_lt_of_le h hj

theorem atLeast_bot (v : ι → EReal) : atLeast v ⊥ = Fintype.card ι := by
  simp [atLeast]

/-- There is one `k`-th largest entry. -/
theorem IsKth.unique {k : ℕ} {v : ι → EReal} {S T : EReal} (hS : IsKth k v S) (hT : IsKth k v T) :
    S = T := by
  rcases lt_trichotomy S T with h | h | h
  · exact absurd (lt_of_le_of_lt (hT.1.trans (atLeast_le_exceed v h)) hS.2) (lt_irrefl _)
  · exact h
  · exact absurd (lt_of_le_of_lt (hS.1.trans (atLeast_le_exceed v h)) hT.2) (lt_irrefl _)

/-- A threshold that exactly `k` entries reach selects the same entries as the `k`-th largest. -/
theorem IsKth.le_iff {k : ℕ} {v : ι → EReal} {T t : EReal} (hT : IsKth k v T) (ht : atLeast v t = k)
    (j : ι) : t ≤ v j ↔ T ≤ v j := by
  have hle : t ≤ T := by
    by_contra h
    have := atLeast_le_exceed v (not_le.1 h)
    have := hT.2
    omega
  have hsub : (Finset.univ.filter fun j => T ≤ v j) ⊆ Finset.univ.filter fun j => t ≤ v j := fun i hi => by
    simp only [Finset.mem_filter, Finset.mem_univ, true_and] at hi ⊢
    exact hle.trans hi
  have heq := Finset.eq_of_subset_of_card_le hsub (by
    have h1 := hT.1
    unfold atLeast at h1 ht
    omega)
  have := congrArg (fun s => j ∈ s) heq
  simp only [Finset.mem_filter, Finset.mem_univ, true_and, eq_iff_iff] at this
  exact this.symm

/-- The largest entry; `⊥` of the empty family. -/
def largest (v : ι → EReal) : EReal := Finset.univ.sup v

theorem le_top (v : ι → EReal) (j : ι) : v j ≤ largest v := Finset.le_sup (Finset.mem_univ j)

/-- The largest entry of a nonempty family is one of its entries. -/
theorem exists_top [Nonempty ι] (v : ι → EReal) : ∃ j, v j = largest v := by
  obtain ⟨j, _, hj⟩ := Finset.exists_mem_eq_sup Finset.univ Finset.univ_nonempty v
  exact ⟨j, hj.symm⟩

end Cert.Proof
-- ==== Proof.Recovery.lean ====
module

public import proofs.«01_k».proof.Proof.Rank
public import Mathlib.Data.Set.Card
public import Mathlib.Tactic.Linarith

@[expose] public section

noncomputable section

/-! # Taking the largest entries off until `k` are gone

The recovery on one row. Each step takes every entry off that equals the present maximum (it is replaced by
`⊥`), subtracts how many there were from the number still to be taken, and records the maximum as the
threshold in the step in which that number is used up. After `k` steps the recorded threshold is the
`k`-th largest entry. -/

namespace Cert.Proof

variable {ι : Type} [Fintype ι]

/-- One row's state: what is left, how many are still to be taken, the recorded threshold. -/
@[ext] structure RowPeel (ι : Type) where
  vals : ι → EReal
  kk : ℤ
  th : EReal

/-- How many entries reach the maximum. -/
def RowPeel.count (s : RowPeel ι) : ℤ := atLeast s.vals (largest s.vals)

/-- One step. -/
def RowPeel.step (s : RowPeel ι) : RowPeel ι where
  vals j := if largest s.vals ≤ s.vals j then ⊥ else s.vals j
  kk := s.kk - s.count
  th := if 0 < s.kk ∧ s.kk ≤ s.count then largest s.vals else s.th

/-- The threshold is still to come: the entries taken off are the largest ones, as many as have been
    subtracted, and the others are untouched. -/
def RowPeel.Pending (k : ℕ) (v : ι → EReal) (s : RowPeel ι) : Prop :=
  0 < s.kk ∧ ∃ R : Finset ι, (R.card : ℤ) = k - s.kk ∧ (∀ j ∈ R, s.vals j = ⊥) ∧ (∀ j ∉ R, s.vals j = v j) ∧
    ∀ i ∈ R, ∀ j ∉ R, v j < v i

/-- The threshold has been recorded. -/
def RowPeel.Done (k : ℕ) (v : ι → EReal) (s : RowPeel ι) : Prop := s.kk ≤ 0 ∧ IsKth k v s.th

variable {k : ℕ} {v : ι → EReal} {s : RowPeel ι}

theorem RowPeel.count_pos [Nonempty ι] (s : RowPeel ι) : 0 < s.count := by
  obtain ⟨j, hj⟩ := exists_top s.vals
  have : 0 < atLeast s.vals (largest s.vals) :=
    Finset.card_pos.2 ⟨j, by simp only [Finset.mem_filter, Finset.mem_univ, true_and]; exact hj.ge⟩
  exact Int.natCast_pos.2 this

theorem RowPeel.Done.step [Nonempty ι] (h : s.Done k v) : s.step.Done k v := by
  have hc := s.count_pos
  refine ⟨by have := h.1; show s.kk - s.count ≤ 0; omega, ?_⟩
  show IsKth k v (if 0 < s.kk ∧ s.kk ≤ s.count then _ else s.th)
  rw [if_neg fun hh => absurd h.1 (not_le.2 hh.1)]
  exact h.2

/-- When the number still to be taken is used up, the present maximum is the `k`-th largest entry. -/
theorem RowPeel.Pending.isKth [Nonempty ι] (hk : k ≤ Fintype.card ι) (h : s.Pending k v)
    (hle : s.kk ≤ s.count) : IsKth k v (largest s.vals) := by
  classical
  obtain ⟨hpos, R, hcard, hR, hnR, hsep⟩ := h
  have hex : exceed v (largest s.vals) ≤ R.card := Finset.card_le_card fun j hj => by
    simp only [Finset.mem_filter, Finset.mem_univ, true_and] at hj
    by_contra hjR
    exact absurd (hnR j hjR ▸ le_top s.vals j) (not_le.2 hj)
  refine ⟨?_, by omega⟩
  by_cases hb : largest s.vals = ⊥
  · rw [hb, atLeast_bot]; exact hk
  · -- the maximum is attained outside what was taken off, so everything taken off exceeds it
    obtain ⟨j₀, hj₀⟩ := exists_top s.vals
    have hj₀R : j₀ ∉ R := fun hm => hb (hj₀ ▸ hR j₀ hm)
    have hsub : R ∪ (Finset.univ.filter fun j => largest s.vals ≤ s.vals j) ⊆
        Finset.univ.filter fun j => largest s.vals ≤ v j := fun j hj => by
      simp only [Finset.mem_union, Finset.mem_filter, Finset.mem_univ, true_and] at hj ⊢
      by_cases hjR : j ∈ R
      · have := hsep j hjR j₀ hj₀R
        rw [← hnR j₀ hj₀R, hj₀] at this
        exact this.le
      · rw [← hnR j hjR]
        exact hj.resolve_left hjR
    have hdis : Disjoint R (Finset.univ.filter fun j => largest s.vals ≤ s.vals j) := by
      rw [Finset.disjoint_left]
      intro j hjR hj
      simp only [Finset.mem_filter, Finset.mem_univ, true_and] at hj
      rw [hR j hjR] at hj
      exact hb (le_bot_iff.1 hj)
    have := Finset.card_le_card hsub
    rw [Finset.card_union_of_disjoint hdis] at this
    unfold RowPeel.count at hle
    unfold atLeast at hle ⊢
    omega

/-- A step from a pending state is pending again or done. -/
theorem RowPeel.Pending.step [Nonempty ι] (hk : k ≤ Fintype.card ι) (h : s.Pending k v) :
    s.step.Pending k v ∨ s.step.Done k v := by
  classical
  by_cases hle : s.kk ≤ s.count
  · right
    refine ⟨by show s.kk - s.count ≤ 0; omega, ?_⟩
    show IsKth k v (if 0 < s.kk ∧ s.kk ≤ s.count then _ else s.th)
    rw [if_pos ⟨h.1, hle⟩]
    exact h.isKth hk hle
  · left
    have hgt := not_le.1 hle
    obtain ⟨hpos, R, hcard, hR, hnR, hsep⟩ := h
    -- the maximum is not `⊥`, or every entry would reach it
    have hRk : (R.card : ℤ) < k := by omega
    have hb : largest s.vals ≠ ⊥ := fun hb => by
      unfold RowPeel.count at hgt
      rw [hb, atLeast_bot] at hgt
      have : (0 : ℤ) ≤ R.card := Int.natCast_nonneg _
      omega
    refine ⟨by show 0 < s.kk - s.count; omega, R ∪ Finset.univ.filter fun j => largest s.vals ≤ s.vals j,
      ?_, ?_, ?_, ?_⟩
    · have hdis : Disjoint R (Finset.univ.filter fun j => largest s.vals ≤ s.vals j) := by
        rw [Finset.disjoint_left]
        intro j hjR hj
        simp only [Finset.mem_filter, Finset.mem_univ, true_and] at hj
        rw [hR j hjR] at hj
        exact hb (le_bot_iff.1 hj)
      rw [Finset.card_union_of_disjoint hdis]
      show _ = (k : ℤ) - (s.kk - s.count)
      unfold RowPeel.count atLeast
      push_cast
      omega
    · intro j hj
      show (if largest s.vals ≤ s.vals j then ⊥ else s.vals j) = ⊥
      simp only [Finset.mem_union, Finset.mem_filter, Finset.mem_univ, true_and] at hj
      split
      · rfl
      · next hn => exact hR j (hj.resolve_right hn)
    · intro j hj
      show (if largest s.vals ≤ s.vals j then ⊥ else s.vals j) = v j
      simp only [Finset.mem_union, Finset.mem_filter, Finset.mem_univ, true_and, not_or] at hj
      rw [if_neg hj.2]
      exact hnR j hj.1
    · intro i hi j hj
      simp only [Finset.mem_union, Finset.mem_filter, Finset.mem_univ, true_and, not_or] at hi hj
      by_cases hiR : i ∈ R
      · exact hsep i hiR j hj.1
      · rw [← hnR i hiR, ← hnR j hj.1]
        exact lt_of_lt_of_le (not_le.1 hj.2) (hi.resolve_left hiR)

/-- After `n` steps at most `k - n` are still to be taken. -/
theorem RowPeel.kk_iterate [Nonempty ι] (s : RowPeel ι) (n : ℕ) : (RowPeel.step^[n] s).kk ≤ s.kk - n := by
  induction n with
  | zero => simp
  | succ n ih =>
    rw [Function.iterate_succ_apply']
    have := (RowPeel.step^[n] s).count_pos
    show (RowPeel.step^[n] s).kk - _ ≤ _
    push_cast
    omega

/-- From the whole row, `k` to be taken, `k` steps record the `k`-th largest entry. -/
theorem isKth_peel [Nonempty ι] (hk0 : 0 < k) (hk : k ≤ Fintype.card ι) (v : ι → EReal) (t : EReal) :
    IsKth k v (RowPeel.step^[k] ⟨v, k, t⟩).th := by
  have key : ∀ n, (RowPeel.step^[n] ⟨v, (k : ℤ), t⟩ : RowPeel ι).Pending k v ∨
      (RowPeel.step^[n] ⟨v, (k : ℤ), t⟩ : RowPeel ι).Done k v := by
    intro n
    induction n with
    | zero =>
      left
      exact ⟨Int.natCast_pos.2 hk0, ∅, by simp, by simp, fun _ _ => rfl, by simp⟩
    | succ n ih =>
      rw [Function.iterate_succ_apply']
      exact ih.elim (fun h => h.step hk) (fun h => Or.inr h.step)
  rcases key k with h | h
  · have h1 := h.1
    have h2 := RowPeel.kk_iterate ⟨v, (k : ℤ), t⟩ k
    exact absurd h1 (not_lt.2 (by simpa using h2))
  · exact h.2

end Cert.Proof
-- ==== Proof.Lanes.lean ====
module

public import proofs.«01_k».proof.Proof.Rank
public import Mathlib.Algebra.BigOperators.Group.Finset.Basic
public import Mathlib.Algebra.Order.BigOperators.Group.Finset
public import Mathlib.Algebra.BigOperators.Fin
public import Mathlib.Logic.Equiv.Fin.Basic
public import Mathlib.Tactic.Linarith

@[expose] public section

noncomputable section

/-! # The fast threshold is reached by at least 21 entries

The fast path on one row. Every lane holds four of its eight entries in descending order. Each step finds the
largest head among the lanes and pops every lane whose head reaches it. After `n` steps at least `n + 1` entries
of the row reach the largest head. -/

namespace Cert.Proof

/-- One row's state: every lane's four entries. -/
@[ext] structure RowTop (ι : Type) where
  c1 : ι → EReal
  c2 : ι → EReal
  c3 : ι → EReal
  c4 : ι → EReal

variable {ι : Type} [Fintype ι]

/-- One where `t` is reached, zero elsewhere. -/
def ind (t x : EReal) : ℕ := if t ≤ x then 1 else 0

theorem ind_bot {t : EReal} (h : ⊥ < t) : ind t ⊥ = 0 := if_neg (not_le.2 h)

theorem atLeast_eq_sum (v : ι → EReal) (t : EReal) : atLeast v t = ∑ j, ind t (v j) := by
  unfold atLeast ind
  rw [Finset.card_filter]

/-- A lane's four entries that reach `t`. -/
def RowTop.lane (s : RowTop ι) (t : EReal) (l : ι) : ℕ :=
  ind t (s.c1 l) + ind t (s.c2 l) + ind t (s.c3 l) + ind t (s.c4 l)

/-- Every lane's four entries descend. -/
def RowTop.Sorted (s : RowTop ι) : Prop := ∀ l, s.c2 l ≤ s.c1 l ∧ s.c3 l ≤ s.c2 l ∧ s.c4 l ≤ s.c3 l

/-- Pop the lanes whose head is the largest head. -/
def RowTop.pop (s : RowTop ι) : RowTop ι where
  c1 l := if largest s.c1 ≤ s.c1 l then s.c2 l else s.c1 l
  c2 l := if largest s.c1 ≤ s.c1 l then s.c3 l else s.c2 l
  c3 l := if largest s.c1 ≤ s.c1 l then s.c4 l else s.c3 l
  c4 l := if largest s.c1 ≤ s.c1 l then ⊥ else s.c4 l

theorem RowTop.Sorted.pop {s : RowTop ι} (h : s.Sorted) : s.pop.Sorted := fun l => by
  obtain ⟨h1, h2, h3⟩ := h l
  unfold RowTop.pop
  dsimp only
  split_ifs
  · exact ⟨h2, h3, bot_le⟩
  · exact ⟨h1, h2, h3⟩

/-- The largest head does not grow. -/
theorem RowTop.Sorted.top_pop_le {s : RowTop ι} (h : s.Sorted) : largest s.pop.c1 ≤ largest s.c1 :=
  Finset.sup_le fun l _ => by
    show (if largest s.c1 ≤ s.c1 l then s.c2 l else s.c1 l) ≤ _
    split_ifs
    · exact (h l).1.trans (le_top _ l)
    · exact le_top _ l

/-- A pop gives up at least one entry that reaches any threshold above `⊥` and at most the largest head. -/
theorem RowTop.sum_pop_lt [Nonempty ι] (s : RowTop ι) {t : EReal} (hb : ⊥ < t) (ht : t ≤ largest s.c1) :
    ∑ l, s.pop.lane t l + 1 ≤ ∑ l, s.lane t l := by
  have hhit : ∀ l, largest s.c1 ≤ s.c1 l → s.lane t l = s.pop.lane t l + 1 := fun l hl => by
    simp only [RowTop.lane, RowTop.pop, if_pos hl, ind_bot hb]
    rw [show ind t (s.c1 l) = 1 from if_pos (ht.trans hl)]
    omega
  have hmiss : ∀ l, ¬ largest s.c1 ≤ s.c1 l → s.lane t l = s.pop.lane t l := fun l hl => by
    simp only [RowTop.lane, RowTop.pop, if_neg hl]
  obtain ⟨l₀, hl₀⟩ := exists_top s.c1
  refine Nat.succ_le_of_lt (Finset.sum_lt_sum (fun l _ => ?_) ⟨l₀, Finset.mem_univ _, ?_⟩)
  · by_cases hl : largest s.c1 ≤ s.c1 l
    · rw [hhit l hl]; omega
    · rw [hmiss l hl]
  · rw [hhit l₀ hl₀.ge]; omega

/-- What holds after `n` pops: the lanes descend, and a threshold above `⊥` that the largest head reaches is
    reached by `n` entries of the row besides those still held. -/
def RowTop.Holds {κ : Type} [Fintype κ] (v : κ → EReal) (n : ℕ) (s : RowTop ι) : Prop :=
  s.Sorted ∧ ∀ t, ⊥ < t → t ≤ largest s.c1 → n + ∑ l, s.lane t l ≤ atLeast v t

variable {κ : Type} [Fintype κ] {v : κ → EReal}

theorem RowTop.Holds.pop [Nonempty ι] {n : ℕ} {s : RowTop ι} (h : s.Holds v n) : s.pop.Holds v (n + 1) := by
  refine ⟨h.1.pop, fun t hb ht => ?_⟩
  have h1 := h.2 t hb (ht.trans h.1.top_pop_le)
  have h2 := s.sum_pop_lt hb (ht.trans h.1.top_pop_le)
  omega

theorem RowTop.Holds.iterate [Nonempty ι] {s : RowTop ι} (h : s.Holds v 0) (n : ℕ) :
    (RowTop.pop^[n] s).Holds v n := by
  induction n with
  | zero => exact h
  | succ n ih => rw [Function.iterate_succ_apply']; exact ih.pop

/-- The largest head after `n` pops is reached by at least `n + 1` entries of the row. -/
theorem RowTop.Holds.le_atLeast [Nonempty ι] {n : ℕ} {s : RowTop ι} (h : s.Holds v n) (hn : n + 1 ≤ Fintype.card κ) :
    n + 1 ≤ atLeast v (largest s.c1) := by
  by_cases hb : largest s.c1 = ⊥
  · rw [hb, atLeast_bot]; exact hn
  · have h1 := h.2 _ (bot_lt_iff_ne_bot.2 hb) le_rfl
    obtain ⟨l₀, hl₀⟩ := exists_top s.c1
    have h2 : 1 ≤ ∑ l, s.lane (largest s.c1) l := by
      refine le_trans ?_ (Finset.single_le_sum (fun _ _ => Nat.zero_le _) (Finset.mem_univ l₀))
      unfold RowTop.lane
      rw [show ind (largest s.c1) (s.c1 l₀) = 1 from if_pos hl₀.ge]
      omega
    omega

/-! ## The four largest of eight -/

/-- Four entries in descending order. -/
structure Four where
  a : EReal
  b : EReal
  c : EReal
  d : EReal

/-- Sort four entries. -/
def sort4 (a b c d : EReal) : Four where
  a := max (max a b) (max c d)
  b := max (min (max a b) (max c d)) (max (min a b) (min c d))
  c := min (min (max a b) (max c d)) (max (min a b) (min c d))
  d := min (min a b) (min c d)

/-- The four largest of two descending quadruples, in descending order. -/
def merge4 (x y : Four) : Four where
  a := max (max (max x.a y.d) (max x.c y.b)) (max (max x.b y.c) (max x.d y.a))
  b := min (max (max x.a y.d) (max x.c y.b)) (max (max x.b y.c) (max x.d y.a))
  c := max (min (max x.a y.d) (max x.c y.b)) (min (max x.b y.c) (max x.d y.a))
  d := min (min (max x.a y.d) (max x.c y.b)) (min (max x.b y.c) (max x.d y.a))

/-- The four largest of eight entries. -/
def four (f : Fin 8 → EReal) : Four := merge4 (sort4 (f 0) (f 1) (f 2) (f 3)) (sort4 (f 4) (f 5) (f 6) (f 7))

/-- Whether `t` is reached. -/
def reach (t x : EReal) : Bool := decide (t ≤ x)

theorem ind_eq (t x : EReal) : ind t x = (reach t x).toNat := by
  unfold ind reach
  by_cases h : t ≤ x <;> simp [h]

theorem reach_max (t x y : EReal) : reach t (max x y) = (reach t x || reach t y) := by
  simp [reach, le_max_iff]

theorem reach_min (t x y : EReal) : reach t (min x y) = (reach t x && reach t y) := by
  simp [reach, le_min_iff]

theorem le_of_reach {x y : EReal} (h : ∀ t, reach t x → reach t y) : x ≤ y :=
  of_decide_eq_true (h x (decide_eq_true le_rfl))

/-- The network's four outputs reach a threshold no more often than its eight inputs. -/
theorem four_le (f : Fin 8 → EReal) (t : EReal) :
    ind t (four f).a + ind t (four f).b + ind t (four f).c + ind t (four f).d ≤ ∑ k, ind t (f k) := by
  simp only [Fin.sum_univ_eight, ind_eq, four, merge4, sort4, reach_max, reach_min]
  generalize reach t (f 0) = p0, reach t (f 1) = p1, reach t (f 2) = p2, reach t (f 3) = p3,
    reach t (f 4) = p4, reach t (f 5) = p5, reach t (f 6) = p6, reach t (f 7) = p7
  revert p0 p1 p2 p3 p4 p5 p6 p7
  decide +kernel

/-- The network's outputs descend. -/
theorem four_sorted (f : Fin 8 → EReal) :
    (four f).b ≤ (four f).a ∧ (four f).c ≤ (four f).b ∧ (four f).d ≤ (four f).c := by
  refine ⟨le_of_reach fun t => ?_, le_of_reach fun t => ?_, le_of_reach fun t => ?_⟩
  all_goals
    simp only [four, merge4, sort4, reach_max, reach_min]
    generalize reach t (f 0) = p0, reach t (f 1) = p1, reach t (f 2) = p2, reach t (f 3) = p3,
      reach t (f 4) = p4, reach t (f 5) = p5, reach t (f 6) = p6, reach t (f 7) = p7
    revert p0 p1 p2 p3 p4 p5 p6 p7
    decide +kernel

/-! ## The row of 1024 entries in 128 lanes of eight -/

/-- The entry of lane `l` in the `k`-th run of 128. -/
def place (l : Fin 128) (k : Fin 8) : Fin 1024 := ⟨128 * k.val + l.val, by omega⟩

theorem sum_place (g : Fin 1024 → ℕ) : ∑ l, ∑ k, g (place l k) = ∑ j, g j := by
  rw [Finset.sum_comm, ← Fintype.sum_prod_type']
  refine Fintype.sum_equiv (finProdFinEquiv.trans (finCongr (show 8 * 128 = 1024 by decide))) _ _ fun p =>
    congrArg g (Fin.ext ?_)
  simp only [place, Equiv.trans_apply, finCongr_apply, Fin.val_cast, finProdFinEquiv_apply_val]
  omega

/-- The state the selection starts from. -/
def rowTop (v : Fin 1024 → EReal) : RowTop (Fin 128) where
  c1 l := (four fun k => v (place l k)).a
  c2 l := (four fun k => v (place l k)).b
  c3 l := (four fun k => v (place l k)).c
  c4 l := (four fun k => v (place l k)).d

theorem holds_rowTop (v : Fin 1024 → EReal) : (rowTop v).Holds v 0 := by
  refine ⟨fun l => four_sorted fun k => v (place l k), fun t _ _ => ?_⟩
  rw [atLeast_eq_sum, ← sum_place, Nat.zero_add]
  exact Finset.sum_le_sum fun l _ => four_le (fun k => v (place l k)) t

/-- At least 21 entries of the row reach the threshold of the fast path. -/
theorem le_atLeast_fast (v : Fin 1024 → EReal) : 21 ≤ atLeast v (largest (RowTop.pop^[20] (rowTop v)).c1) :=
  ((holds_rowTop v).iterate 20).le_atLeast (by simp)

end Cert.Proof
-- ==== Proof.Reads.lean ====
module

public import proofs.«01_k».proof.Proof.Body
public import proofs.«01_k».proof.Proof.Recovery
public import proofs.«01_k».proof.Proof.Lanes
public import Idealize.ShloMosaic.Lib.Pointwise

@[expose] public section

noncomputable section

/-! # The body's functions read row by row, on extended reals

On extended reals a row's maximum is its largest entry, a mask's count is the number of entries it holds at,
and the replacement of a taken entry is `⊥`; so each step of the body is, on every row, the step of the
row's own selection. -/

namespace Cert.Proof

open Idealize.ShloMosaic Cert.KernelIdeal Cert.KernelIdeal.Gen

/-! ## Constants -/

theorem ofBits_negInf : Ideal.ofBits .f32 0xFF800000#32 = ⊥ := by simp [Ideal.ofBits, Ideal.ieee]

theorem ofBits_21 : Ideal.ofBits .f32 0x41A80000#32 = ((21 : ℝ) : EReal) := by
  simp [Ideal.ofBits, Ideal.ieee, -EReal.coe_mul]; norm_num

theorem scalar_21 : (Scalar.ofBits .f32 0x41A80000#32 : Ideal .f32) = ((21 : ℝ) : EReal) := ofBits_21

/-- What a taken entry is replaced by is the least extended real. -/
theorem low_eq : (low : Ideal .f32) = ⊥ := by
  show Ideal.ofBits .f32 0x00000000#32 - (⊤ : EReal) = ⊥
  rw [Ideal.ofBits_zero_f32, zero_sub, EReal.neg_top]

/-- The maximum-fold of a family from `⊥` is its largest entry. -/
theorem fold_max {ι : Type} [Fintype ι] (v : ι → EReal) : Finset.univ.fold max ⊥ v = largest v := rfl

/-- The comparison "at least", read at an index. -/
theorem cmpf_oge_apply {s : Shape} (x y : FVec Ideal s .f32) (i : s.Idx) :
    cmpf .oge x y i = BitVec.ofBool (decide (y i ≤ x i)) := rfl

/-! ## One block's rows -/

/-- Row `r` of a block. -/
def row {n : ℕ} (ov : FVec Ideal ⟨2, ![512, n]⟩ .f32) (r : Fin 512) (j : Fin n) : EReal := ov (ix2 r j)

theorem laneMax_apply (c : FVec Ideal S512x128 .f32) (r : Fin 512) : laneMax c (ix2 r 0) = largest (row c r) := by
  unfold laneMax
  pointwise
  rw [ofBits_negInf]
  rfl

theorem rowMax_apply (v : FVec Ideal S512x1024 .f32) (r : Fin 512) : rowMax v (ix2 r 0) = largest (row v r) := by
  unfold rowMax
  pointwise
  rw [ofBits_negInf]
  rfl

theorem hit_apply (c : FVec Ideal S512x128 .f32) (r : Fin 512) (l : Fin 128) :
    hit c (ix2 r l) = BitVec.ofBool (decide (largest (row c r) ≤ row c r l)) := by
  have h : broadcastTo S512x128 (laneMax c) broadcasts_S512x1_S512x128 (ix2 r l) = laneMax c (ix2 r 0) := by
    pointwise
  rw [hit, cmpf_oge_apply, h, laneMax_apply]
  rfl

theorem above_apply (ov : FVec Ideal S512x1024 .f32) (t : FVec Ideal S512x1 .f32) (r : Fin 512) (j : Fin 1024) :
    above ov t (ix2 r j) = BitVec.ofBool (decide (t (ix2 r 0) ≤ row ov r j)) := by
  have h : broadcastTo S512x1024 t broadcasts_S512x1_S512x1024 (ix2 r j) = t (ix2 r 0) := by
    pointwise
  rw [above, cmpf_oge_apply, h]
  rfl

/-- A mask's count on a row is the number of entries it holds at. -/
theorem rowCount_apply (k : IVec S512x1024 1) (r : Fin 512) (p : Fin 1024 → Prop) [DecidablePred p]
    (h : ∀ j, k (ix2 r j) = BitVec.ofBool (decide (p j))) :
    rowCount (F := Ideal) k (ix2 r 0) = (((Finset.univ.filter p).card : ℕ) : EReal) := by
  unfold rowCount
  pointwise
  simp only [h, Scalar.select_decide]
  rw [Finset.sum_boole]

/-! ## The fast selection -/

/-- Row `r` of the lanes' candidates. -/
def Top4.row (s : Top4 Ideal) (r : Fin 512) : RowTop (Fin 128) :=
  ⟨Cert.Proof.row s.c1 r, Cert.Proof.row s.c2 r, Cert.Proof.row s.c3 r, Cert.Proof.row s.c4 r⟩

theorem select_hit (c x y : FVec Ideal S512x128 .f32) (r : Fin 512) (l : Fin 128) :
    select (hit c) x y (ix2 r l) = if largest (row c r) ≤ row c r l then x (ix2 r l) else y (ix2 r l) := by
  rw [ValueIdx.select_apply, hit_apply, Scalar.select_decide]

theorem row_select_hit (c x y : FVec Ideal S512x128 .f32) (r : Fin 512) (l : Fin 128) :
    row (select (hit c) x y) r l = if largest (row c r) ≤ row c r l then row x r l else row y r l :=
  select_hit c x y r l

theorem row_broadcast (a : Ideal .f32) (r : Fin 512) (l : Fin 128) : row (broadcast S512x128 a) r l = a := rfl

theorem Top4.row_pop (s : Top4 Ideal) (r : Fin 512) : s.pop.row r = (s.row r).pop := by
  simp only [Top4.row, Top4.pop, RowTop.pop]
  refine RowTop.ext ?_ ?_ ?_ ?_ <;> funext l <;> dsimp only <;> rw [row_select_hit]
  · exact if_congr Iff.rfl rfl rfl
  · exact if_congr Iff.rfl rfl rfl
  · exact if_congr Iff.rfl rfl rfl
  · exact if_congr Iff.rfl ((row_broadcast low r l).trans low_eq) rfl

theorem Top4.row_iterate (s : Top4 Ideal) (r : Fin 512) (n : ℕ) :
    (Top4.pop^[n] s).row r = RowTop.pop^[n] (s.row r) := by
  induction n with
  | zero => rw [Function.iterate_zero_apply, Function.iterate_zero_apply]
  | succ n ih => rw [Function.iterate_succ_apply', Function.iterate_succ_apply', Top4.row_pop, ih]

/-- The four candidates of a lane. -/
def Top4.at (s : Top4 Ideal) (r : Fin 512) (l : Fin 128) : Four :=
  ⟨s.c1 (ix2 r l), s.c2 (ix2 r l), s.c3 (ix2 r l), s.c4 (ix2 r l)⟩

theorem quad_at (a b c d : FVec Ideal S512x128 .f32) (r : Fin 512) (l : Fin 128) :
    (quad a b c d).at r l = sort4 (a (ix2 r l)) (b (ix2 r l)) (c (ix2 r l)) (d (ix2 r l)) := rfl

theorem merge_at (a b : Top4 Ideal) (r : Fin 512) (l : Fin 128) :
    (merge a b).at r l = merge4 (a.at r l) (b.at r l) := rfl

theorem top4_at (ov : FVec Ideal S512x1024 .f32) (r : Fin 512) (l : Fin 128) :
    (top4 ov).at r l = four fun k => row ov r (place l k) := by
  unfold top4
  rw [merge_at, quad_at, quad_at]
  pointwise
  simp only [four, row, place]
  congr 2
  simp

theorem top4_row (ov : FVec Ideal S512x1024 .f32) (r : Fin 512) : (top4 ov).row r = rowTop (row ov r) := by
  refine RowTop.ext ?_ ?_ ?_ ?_ <;> funext l
  · exact congrArg Four.a (top4_at ov r l)
  · exact congrArg Four.b (top4_at ov r l)
  · exact congrArg Four.c (top4_at ov r l)
  · exact congrArg Four.d (top4_at ov r l)

/-- The fast threshold of a row. -/
def fast (v : Fin 1024 → EReal) : EReal := largest (RowTop.pop^[20] (rowTop v)).c1

theorem fast_apply (ov : FVec Ideal S512x1024 .f32) (r : Fin 512) :
    laneMax (Top4.pop^[20] (top4 ov)).c1 (ix2 r 0) = fast (row ov r) := by
  have h : ∀ s : Top4 Ideal, row s.c1 r = (s.row r).c1 := fun _ => rfl
  rw [laneMax_apply, h, Top4.row_iterate, top4_row, fast]

theorem keep_apply (ov : FVec Ideal S512x1024 .f32) (r : Fin 512) (j : Fin 1024) :
    keep ov (ix2 r j) = BitVec.ofBool (decide (fast (row ov r) ≤ row ov r j)) := by
  unfold keep
  rw [above_apply, fast_apply]

/-! ## The exact recovery -/

/-- The recovery's state agrees with a row's own state. -/
structure Peel.Reads (s : Peel Ideal) (r : Fin 512) (p : RowPeel (Fin 1024)) : Prop where
  vals : row s.vals r = p.vals
  kk : s.kk (ix2 r 0) = ((p.kk : ℝ) : EReal)
  th : s.th (ix2 r 0) = p.th

variable {s : Peel Ideal} {r : Fin 512} {p : RowPeel (Fin 1024)}

theorem Peel.Reads.top_apply (h : s.Reads r p) (j : Fin 1024) :
    s.top (ix2 r j) = BitVec.ofBool (decide (largest p.vals ≤ p.vals j)) := by
  unfold Peel.top
  rw [above_apply, rowMax_apply, h.vals]

theorem Peel.Reads.count_apply (h : s.Reads r p) : rowCount (F := Ideal) s.top (ix2 r 0) = ((p.count : ℝ) : EReal) := by
  rw [rowCount_apply _ r _ h.top_apply, RowPeel.count, Int.cast_natCast, EReal.coe_natCast, atLeast]

theorem Peel.Reads.step (h : s.Reads r p) : s.step.Reads r p.step where
  vals := by
    funext j
    have hv : s.vals (ix2 r j) = p.vals j := congrFun h.vals j
    simp only [Peel.step, RowPeel.step]
    rw [row, ValueIdx.select_apply, h.top_apply, Scalar.select_decide, ValueIdx.broadcast_apply, low_eq, hv]
  kk := by
    show s.kk (ix2 r 0) - rowCount (F := Ideal) s.top (ix2 r 0) = (((p.kk - p.count : ℤ) : ℝ) : EReal)
    rw [h.kk, h.count_apply, Int.cast_sub, EReal.coe_sub]
  th := by
    show Scalar.select (IntOp.andi (Ideal.cmp .ogt (s.kk (ix2 r 0)) (Ideal.ofBits .f32 0x00000000#32))
      (Ideal.cmp .ole (s.kk (ix2 r 0)) (rowCount (F := Ideal) s.top (ix2 r 0)))) (rowMax s.vals (ix2 r 0)) (s.th (ix2 r 0))
        = if 0 < p.kk ∧ p.kk ≤ p.count then largest p.vals else p.th
    rw [h.kk, h.count_apply, rowMax_apply, h.vals, h.th, Ideal.ofBits_zero_f32]
    have h1 : (0 : EReal) < ((p.kk : ℝ) : EReal) ↔ 0 < p.kk := by
      rw [← EReal.coe_zero, EReal.coe_lt_coe_iff]; exact_mod_cast Iff.rfl
    have h2 : ((p.kk : ℝ) : EReal) ≤ ((p.count : ℝ) : EReal) ↔ p.kk ≤ p.count := by
      rw [EReal.coe_le_coe_iff]; exact_mod_cast Iff.rfl
    by_cases hp : 0 < p.kk <;> by_cases hc : p.kk ≤ p.count <;>
      simp [Ideal.cmp, h1, h2, hp, hc, Scalar.select, IntOp.andi]

theorem Peel.Reads.iterate (h : s.Reads r p) (n : ℕ) : (Peel.step^[n] s).Reads r (RowPeel.step^[n] p) := by
  induction n with
  | zero => exact h
  | succ n ih => rw [Function.iterate_succ_apply', Function.iterate_succ_apply']; exact ih.step

theorem peel_reads (ov : FVec Ideal S512x1024 .f32) (r : Fin 512) :
    (peel ov).Reads r ⟨row ov r, (21 : ℕ), ⊥⟩ where
  vals := rfl
  kk := by
    show Ideal.ofBits .f32 0x41A80000#32 = _
    rw [ofBits_21]
    norm_num
  th := low_eq

/-- The recovery's threshold of a row is the row's 21st largest entry. -/
theorem exact_isKth (ov : FVec Ideal S512x1024 .f32) (r : Fin 512) :
    IsKth 21 (row ov r) ((Peel.step^[21] (peel ov)).th (ix2 r 0)) := by
  rw [((peel_reads ov r).iterate 21).th]
  exact isKth_peel (by decide) (by simp) _ _

theorem exact_apply (ov : FVec Ideal S512x1024 .f32) (r : Fin 512) (j : Fin 1024) {T : EReal}
    (hT : IsKth 21 (row ov r) T) : exact ov (ix2 r j) = BitVec.ofBool (decide (T ≤ row ov r j)) := by
  unfold exact
  rw [above_apply, (exact_isKth ov r).unique hT]

/-! ## The two together -/

/-- Where the recovery does not run, the fast threshold is reached by exactly 21 entries of every row. -/
theorem atLeast_fast (ov : FVec Ideal S512x1024 .f32) (h : ¬ bad ov) (r : Fin 512) :
    atLeast (row ov r) (fast (row ov r)) = 21 := by
  have hm : mostKept (F := Ideal) (keep ov) = ((21 : ℝ) : EReal) := by
    by_contra hne
    refine h ?_
    unfold bad
    rw [show Scalar.cmpf .one (mostKept (F := Ideal) (keep ov)) (Scalar.ofBits .f32 0x41A80000#32) = 1#1 from by
      rw [Ideal.scalar_cmpf_def, scalar_21]
      simp only [Ideal.cmp]
      rw [decide_eq_true hne]
      rfl]
    decide
  have hle : rowCount (F := Ideal) (keep ov) (ix2 r 0) ≤ mostKept (F := Ideal) (keep ov) := by
    unfold mostKept
    pointwise
    rw [ofBits_negInf, fold_max]
    exact le_top (fun x : Fin 512 × Fin 1 => rowCount (F := Ideal) (keep ov) (ix2 x.1 0)) (r, 0)
  rw [hm, rowCount_apply _ r _ (keep_apply ov r)] at hle
  have h1 : atLeast (row ov r) (fast (row ov r)) ≤ 21 := by
    have : (((atLeast (row ov r) (fast (row ov r)) : ℕ) : ℝ) : EReal) ≤ ((21 : ℝ) : EReal) := by
      rw [EReal.coe_natCast]; exact hle
    exact_mod_cast EReal.coe_le_coe_iff.1 this
  have h2 : 21 ≤ atLeast (row ov r) (fast (row ov r)) := le_atLeast_fast _
  omega

theorem masked_apply (ov : FVec Ideal S512x1024 .f32) (k : IVec S512x1024 1) (r : Fin 512) (j : Fin 1024) :
    masked ov k (ix3 0 r j) = Scalar.select (k (ix2 r j)) (row ov r j) 0 := by
  unfold masked
  pointwise
  rfl

/-- What a block holds: the entries of each row that reach the row's 21st largest, zero elsewhere. -/
theorem block_apply (ov : FVec Ideal S512x1024 .f32) (r : Fin 512) (j : Fin 1024) {T : EReal}
    (hT : IsKth 21 (row ov r) T) : block ov (ix3 0 r j) = if T ≤ row ov r j then row ov r j else 0 := by
  unfold block
  split
  · rw [masked_apply, exact_apply ov r j hT, Scalar.select_decide]
  · next h =>
    rw [masked_apply, keep_apply, Scalar.select_decide]
    exact if_congr (hT.le_iff (atLeast_fast ov h r) j) rfl rfl

end Cert.Proof
-- ==== Proof.Sorted.lean ====
module

public import proofs.«01_k».proof.Proof.Rank
public import Idealize.ShloMosaic.Lib.SortFacts

@[expose] public section

noncomputable section

/-! # The entry at position `p` of a descending sort is the `p + 1`-th largest -/

namespace Cert.Proof

open Idealize.ShloMosaic

variable {n : ℕ}

/-- "Sorts before": the larger entry first. -/
def larger (v : Fin n → EReal) (i j : Fin n) : Bool := decide (v j < v i)

/-- A later position of the descending sort holds no larger entry. -/
theorem sorted_le (v : Fin n → EReal) {i j : Fin n} (h : i ≤ j) :
    v (sortedFrom (larger v) j) ≤ v (sortedFrom (larger v) i) := by
  rcases h.eq_or_lt with rfl | h
  · exact le_rfl
  · have := sortedFrom_noInversion (larger v) (larger v)
      (fun a b hab => decide_eq_false (not_lt.2 (of_decide_eq_true hab).le)) (fun _ _ hab => hab)
      (fun a b c hab hbc => decide_eq_false (not_lt.2
        ((not_lt.1 (of_decide_eq_false hab)).trans (not_lt.1 (of_decide_eq_false hbc))))) i j h
    exact not_lt.1 (of_decide_eq_false this)

theorem isKth_sorted (v : Fin n → EReal) (p : Fin n) :
    IsKth (p.val + 1) v (v (sortedFrom (larger v) p)) := by
  have hinj := sortedFrom_injective (larger v)
  have hsur := sortedFrom_surjective (larger v)
  constructor
  · calc p.val + 1 = ((Finset.Iic p).image (sortedFrom (larger v))).card := by
          rw [Finset.card_image_of_injective _ hinj, Fin.card_Iic]
      _ ≤ _ := Finset.card_le_card fun j hj => by
          obtain ⟨i, hi, rfl⟩ := Finset.mem_image.1 hj
          simp only [Finset.mem_filter, Finset.mem_univ, true_and]
          exact sorted_le v (Finset.mem_Iic.1 hi)
  · refine Nat.lt_succ_of_le ?_
    calc exceed v _ ≤ ((Finset.Iio p).image (sortedFrom (larger v))).card := Finset.card_le_card fun j hj => by
          simp only [Finset.mem_filter, Finset.mem_univ, true_and] at hj
          obtain ⟨i, rfl⟩ := hsur j
          refine Finset.mem_image.2 ⟨i, Finset.mem_Iio.2 ?_, rfl⟩
          by_contra hn
          exact absurd hj (not_lt.2 (sorted_le v (not_lt.1 hn)))
      _ = p.val := by rw [Finset.card_image_of_injective _ hinj, Fin.card_Iio]

end Cert.Proof
-- ==== Proof.Reference.lean ====
module

public import proofs.«01_k».proof.Defs
public import proofs.«01_k».proof.Proof.Gen.ReferenceIdeal
public import proofs.«01_k».proof.Proof.Gen.ReferenceIdeal.Run
public import proofs.«01_k».proof.Proof.Sorted
public import Idealize.ShloMosaic.Lib.Pointwise
public import Idealize.ShloMosaic.Lib.Quiescent

@[expose] public section

noncomputable section

/-! # What the reference computes, row by row, and its frame -/

namespace Cert.Proof

open Idealize.ShloMosaic Cert.ReferenceIdeal Cert.ReferenceIdeal.Gen Idealize.ShloMosaic.TcCoe Idealize.SL.Sem

/-- The 21st largest entry of a row: position 20 of its descending sort. -/
def kth (v : Fin 1024 → EReal) : EReal := v (sortedFrom (larger v) 20)

theorem isKth_kth (v : Fin 1024 → EReal) : IsKth 21 v (kth v) := isKth_sorted v 20

/-- A row with everything below its 21st largest entry set to zero. -/
def keepRow (v : Fin 1024 → EReal) (j : Fin 1024) : EReal := if kth v ≤ v j then v j else 0

/-- The overlaps of input row `n` with the columns of matrix `c`. -/
def overlapRow (x : FVec Ideal S16384x64 .f32) (p : FVec Ideal S6x64x1024 .f32) (c : Fin 6) (n : Fin 16384)
    (j : Fin 1024) : EReal := ∑ k : Fin 64, x (ix2 n k) * p (ix3 c k j)

/-- The reference's overlaps, as one array. -/
def overlaps (x : FVec Ideal S16384x64 .f32) (p : FVec Ideal S6x64x1024 .f32) : FVec Ideal S6x16384x1024 .f32 :=
  transpose S6x16384x1024 [0, 2, 1]
    (Host.dotGeneral dot_S6x64x1024_S16384x64_S6x1024x16384_1_1_02_0_n_n none p x)
    transposes_S6x1024x16384_S6x16384x1024_0_2_1

theorem overlaps_apply (x : FVec Ideal S16384x64 .f32) (p : FVec Ideal S6x64x1024 .f32) (c : Fin 6)
    (n : Fin 16384) (j : Fin 1024) : overlaps x p (ix3 c n j) = overlapRow x p c n j := by
  unfold overlaps overlapRow
  pointwise
  exact Finset.sum_congr rfl fun k _ => mul_comm _ _

/-- Every row's 21st largest overlap. -/
def kthLargest (ov : FVec Ideal S6x16384x1024 .f32) : FVec Ideal S6x16384x1 .f32 :=
  extractStridedSlice S6x16384x1 ![0, 0, 20]
    (Host.topK S6x16384x21 2 (FloatOps.cmpfTotal .gt) ov sliceFits_S6x16384x1024_S6x16384x21).1
    slices_S6x16384x21_S6x16384x1_0_0_20

/-- Moving along the last axis changes the last coordinate. -/
theorem along_last (c : Fin 6) (n : Fin 16384) (j k : Fin 1024) (h : 2 < 3) :
    Shape.Idx.along (s := S6x16384x1024) (ix3 c n j) ⟨2, h⟩ k = ix3 c n k := by
  funext d
  match d with
  | ⟨0, _⟩ => rfl
  | ⟨1, _⟩ => rfl
  | ⟨2, _⟩ => rfl

/-- The sort's order on the entries of a row is "larger comes first". -/
theorem gt_eq_larger (v : Fin 1024 → EReal) (i j : Fin 1024) :
    (FloatOps.cmpfTotal (F := Ideal) (φ := .f32) CmpDirection.gt (v i) (v j) == 1#1) = larger v i j := by
  rw [Ideal.cmpfTotal_def]
  unfold Ideal.cmp larger
  simp only [CmpDirection.ordered]
  by_cases h : v j < v i <;> simp [h]

/-- Position 20 along the sorted row is the row's 21st largest entry. -/
theorem kthLargest_apply (ov : FVec Ideal S6x16384x1024 .f32) (c : Fin 6) (n : Fin 16384) :
    kthLargest ov (ix3 c n 0) = kth fun j => ov (ix3 c n j) := by
  unfold kthLargest Host.topK
  dsimp only
  pointwise
  unfold Host.sort2
  rw [dif_pos (by decide : 2 < 3)]
  dsimp only
  have hd : 2 < 3 := by decide
  refine (congrArg ov (along_last c n 20 _ hd)).trans ?_
  have hcmp : (fun k k' : Fin 1024 =>
      FloatOps.cmpfTotal (F := Ideal) CmpDirection.gt (ov (Shape.Idx.along (s := S6x16384x1024) (ix3 c n 20) ⟨2, hd⟩ k))
        (ov (Shape.Idx.along (s := S6x16384x1024) (ix3 c n 20) ⟨2, hd⟩ k')) == 1#1)
      = larger fun j => ov (ix3 c n j) := by
    funext k k'
    rw [along_last, along_last]
    exact gt_eq_larger (fun j => ov (ix3 c n j)) k k'
  exact congrArg (fun f => ov (ix3 c n (sortedFrom f 20))) hcmp

/-- The reference's result. -/
def reference (x : FVec Ideal S16384x64 .f32) (p : FVec Ideal S6x64x1024 .f32) : FVec Ideal S6x16384x1024 .f32 :=
  select (cmpf .oge (overlaps x p)
      (broadcastInDim S6x16384x1024 ![0, 1, 2] bcast_S6x16384x1_S6x16384x1024_0_1_2 (kthLargest (overlaps x p))))
    (overlaps x p)
    (broadcastInDim S6x16384x1024 ![] bcast_S_S6x16384x1024 (id (constant S_ .f32 0x00000000#32)))

/-- On every row the reference keeps what reaches the row's 21st largest overlap. -/
theorem reference_apply (x : FVec Ideal S16384x64 .f32) (p : FVec Ideal S6x64x1024 .f32) (c : Fin 6)
    (n : Fin 16384) (j : Fin 1024) : reference x p (ix3 c n j) = keepRow (overlapRow x p c n) j := by
  have h : (fun j => overlaps x p (ix3 c n j)) = overlapRow x p c n := funext (overlaps_apply x p c n)
  have hb : broadcastInDim S6x16384x1024 ![0, 1, 2] bcast_S6x16384x1_S6x16384x1024_0_1_2
      (kthLargest (overlaps x p)) (ix3 c n j) = kth (overlapRow x p c n) := by
    pointwise
    rw [kthLargest_apply, h]
  have hz : broadcastInDim S6x16384x1024 ![] bcast_S_S6x16384x1024
      (id (constant S_ .f32 0x00000000#32) : FVec Ideal S_ .f32) (ix3 c n j) = 0 := by
    simp only [id]
    pointwise
  unfold reference keepRow
  rw [ValueIdx.select_apply, hz, ValueIdx.cmpf_apply, hb, overlaps_apply, Ideal.cmpf_def]
  unfold Ideal.cmp
  rw [Scalar.select_decide]

/-- The reference ends with its result at `reference` of its arguments, which stay as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = reference (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  Cert.ReferenceIdeal.Value.run (F := Ideal) m ρ

/-- The reference terminates, its arguments end as they were, and every counter is zero. -/
theorem reference_frame : Cert.quiescent_ReferenceIdeal := fun m g _ =>
  (θ_run defs _ _).mono (fun r h => ⟨fun c => ⟨(h c).2.1, (h c).2.2⟩, sem_eq_zero_of_no_sems (by decide) r.2⟩)
    (reference_run m g)

end Cert.Proof
-- ==== Proof.Windows.lean ====
module

public import proofs.«01_k».proof.Proof.Gen.KernelIdeal.Frame
public import Idealize.ShloMosaic.Lib.Pipeline.Covers

@[expose] public section

/-! # Where the blocks of the three windows lie

The grid is 6 matrices by 32 blocks of 512 rows. -/

namespace Cert.Proof.IdealRun

open Idealize.ShloMosaic Cert.KernelIdeal Cert.KernelIdeal.Gen

/-- A grid coordinate, as the index maps carry it, is itself. -/
theorem word_coord (i : grid0.Coords) (a : Fin 2) : (BitVec.ofNat 32 (i a).val).toNat = (i a).val := by
  have h : (i a).val < 33 := lt_of_lt_of_le (i a).isLt (by revert a; decide)
  rw [BitVec.toNat_ofNat]
  omega

/-- The input rows go by the inner coordinate. -/
theorem index0 (t : Fin grid0.N) : win0_0.index t = ![(grid0.coords t 1).val, 0] := by
  show ![(BitVec.ofNat 32 (grid0.coords t 1).val).toNat, 0] = _
  rw [word_coord]

/-- The matrix goes by the outer coordinate. -/
theorem index1 (t : Fin grid0.N) : win0_1.index t = ![(grid0.coords t 0).val, 0, 0] := by
  show ![(BitVec.ofNat 32 (grid0.coords t 0).val).toNat, 0, 0] = _
  rw [word_coord]

/-- The result's block goes by both. -/
theorem index2 (t : Fin grid0.N) : win0_2.index t = ![(grid0.coords t 0).val, (grid0.coords t 1).val, 0] := by
  show ![(BitVec.ofNat 32 (grid0.coords t 0).val).toNat, (BitVec.ofNat 32 (grid0.coords t 1).val).toNat, 0] = _
  rw [word_coord, word_coord]

/-- The result's blocks fill its array. -/
theorem covers2 : win0_2.Covers :=
  win0_2.covers_of_indexMap_surj rfl (by decide) fun β => by
    have h0 : win0_2.nblk 0 = 6 := by decide
    have h1 : win0_2.nblk 1 = 32 := by decide
    have h2 : win0_2.nblk 2 = 1 := by decide
    let i : grid0.Coords := fun a => match a with
      | ⟨0, _⟩ => (⟨(β 0).val, lt_of_lt_of_eq (β 0).isLt h0⟩ : Fin 6)
      | ⟨1, _⟩ => (⟨(β 1).val, lt_of_lt_of_eq (β 1).isLt h1⟩ : Fin 32)
    have hz : (β 2).val = 0 := by have := (β 2).isLt; omega
    refine ⟨i, fun a => ?_⟩
    match a with
    | ⟨0, _⟩ => exact word_coord i 0
    | ⟨1, _⟩ => exact word_coord i 1
    | ⟨2, _⟩ => exact hz.symm

end Cert.Proof.IdealRun
-- ==== Proof.ArrayValue.lean ====
module

public import proofs.«01_k».proof.Proof.IdealRun
public import proofs.«01_k».proof.Proof.Reads
public import proofs.«01_k».proof.Proof.Reference
public import proofs.«01_k».proof.Proof.Windows
public import Idealize.ShloMosaic.Lib.Pipeline.ValueKit

@[expose] public section

noncomputable section

/-! # What the result array holds when the kernel has run -/

namespace Cert.Proof.IdealRun

open Idealize.ShloMosaic Cert.KernelIdeal Cert.KernelIdeal.Gen Idealize.ShloMosaic.TcCoe Idealize.SL.Sem
open Idealize.ShloMosaic.Pipeline

/-- The overlaps of row `r` of an input block with the columns of a matrix block. -/
def blockRow (x : FVec Ideal S512x64 .f32) (p : FVec Ideal S1x64x1024 .f32) (r : Fin 512) (j : Fin 1024) : EReal :=
  ∑ k : Fin 64, x (ix2 r k) * p (ix3 0 k j)

/-- One block of overlaps, row by row. -/
theorem row_overlap (x : FVec Ideal S512x64 .f32) (p : FVec Ideal S1x64x1024 .f32) (r : Fin 512) :
    row (overlap (F := Ideal) x p) r = blockRow x p r := by
  funext j
  unfold row overlap blockRow
  pointwise

/-- One block of results, entry by entry: the row of overlaps, with everything below its 21st largest entry at zero. -/
theorem result_apply (x : FVec Ideal S512x64 .f32) (p : FVec Ideal S1x64x1024 .f32) (r : Fin 512) (j : Fin 1024) :
    block (overlap (F := Ideal) x p) (ix3 0 r j) = keepRow (blockRow x p r) j := by
  rw [← row_overlap x p r]
  generalize overlap (F := Ideal) x p = ov
  have h := block_apply ov r j (isKth_kth (row ov r))
  unfold keepRow
  by_cases hc : kth (row ov r) ≤ row ov r j
  · rw [if_pos hc] at h ⊢
    exact h
  · rw [if_neg hc] at h ⊢
    exact h

variable (m : (ℓ : Loc nD τ sig) → Buf (Elt Ideal) ℓ)

/-- The block a grid point leaves, at row `r` and column `j`, is the reference's result at the entry of the array
    that this place of the block is. -/
theorem point (c : Dev nD) (t : Fin cfg0.N) (r : Fin 512) (j : Fin 1024) :
    block (overlap (F := Ideal) (iblk m c 0 t) (iblk m c 1 t)) (ix3 0 r j)
      = reference (m ((c : Thread nD τ).loc main_arg0)) (m ((c : Thread nD τ).loc main_arg1))
          ((win0_2.blk t).view.emb (ix3 0 r j)) := by
  have hc : (grid0.coords t 0).val < 6 := (grid0.coords t 0).isLt
  have hb : (grid0.coords t 1).val < 32 := (grid0.coords t 1).isLt
  have he : (win0_2.blk t).view.emb (ix3 0 r j)
      = ix3 (⟨(grid0.coords t 0).val, hc⟩ : Fin 6) (⟨(grid0.coords t 1).val * 512 + r.val, by omega⟩ : Fin 16384) j := by
    funext a
    apply Fin.ext
    fin_cases a <;> blk_simp [index2] <;> simp
  have hrow : blockRow (iblk m c 0 t) (iblk m c 1 t) r
      = overlapRow (m ((c : Thread nD τ).loc main_arg0)) (m ((c : Thread nD τ).loc main_arg1))
          ⟨(grid0.coords t 0).val, hc⟩ ⟨(grid0.coords t 1).val * 512 + r.val, by omega⟩ := by
    funext j
    unfold blockRow overlapRow
    refine Finset.sum_congr rfl fun k _ => ?_
    blk_point [iblk, V, index0 t, index1 t]
  rw [he, reference_apply, result_apply, hrow]

/-- What a grid point writes back is its block of the reference's result. -/
theorem flushed_eq (c : Dev nD) (t : Fin cfg0.N) : (dats m 0 c).flushed 2 t = (win0_2.blk t).view.read (Elt Ideal)
    (reference (m ((c : Thread nD τ).loc main_arg0)) (m ((c : Thread nD τ).loc main_arg1))) := by
  show (cfg0.win 2).cut (grid0.coords t) ((dats m 0 c).after 2 t) = _
  rw [after2]
  generalize hB : block (overlap (F := Ideal) (iblk m c 0 t) (iblk m c 1 t)) = B
  funext y
  have hy : y = ix3 (0 : Fin 1) (y 1 : Fin 512) (y 2 : Fin 1024) := by
    funext a
    match a with
    | ⟨0, _⟩ => exact Subsingleton.elim (α := Fin 1) _ _
    | ⟨1, _⟩ => rfl
    | ⟨2, _⟩ => rfl
  rw [hy]
  have h := point m c t (y 1) (y 2)
  rw [hB] at h
  exact h

/-- The result array after the run: the reference's result on the two arguments. -/
theorem final (c : Dev nD) : (dats m 0 c).arrAt 2 cfg0.N
    = reference (m ((c : Thread nD τ).loc main_arg0)) (m ((c : Thread nD τ).loc main_arg1)) :=
  (dats m 0 c).arrAt_eq_of_cover 2 _ (fun t _ => flushed_eq m c t) (covers2.cover _ (Memref.isWhole_whole _))

/-- The idealized kernel ends with its result at the reference's, and its arguments as they were. -/
theorem result_run (ρ : Dev nD → PrngReg) :
    θ_run defs (onTc (τ := τ) (main (F := Ideal))) ⟨m, fun _ => 0, ρ⟩ fun r => ∀ c : Dev nD,
      r.2.mem ((c.tc : Thread nD τ).loc main_v0)
          = reference (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨((h.1 c).1 2).trans (final m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_main m ρ)

end Cert.Proof.IdealRun
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.ArrayValue

@[expose] public section

noncomputable section

/-! # The claims, put together -/

namespace Cert.Proof

open Idealize.ShloMosaic Idealize.SL.Sem

/-- The idealized kernel terminates, its arguments end as they were, and every counter is zero. -/
theorem ideal_frame : Cert.quiescent_KernelIdeal := fun m g _ => IdealRun.frame (F := Ideal) m g

/-- The kernel's literal 3e38 is the number that the idealized kernel names `big`, whose value is infinity. -/
theorem preserves : Cert.preserves_Kernel_KernelIdeal :=
  IdealRules.named_const.statement Cert.KernelIdeal.κ "big" .f32 0x7F61B1E6#32 ⊤ rfl

/-- From equal arguments, the idealized kernel and the reference end with equal results. -/
theorem algebraic : Cert.algebraic_KernelIdeal_ReferenceIdeal := by
  intro m g m' g' _ hm
  refine ⟨fun c => reference (m ((c.tc : Thread _ _).loc Cert.KernelIdeal.main_arg0))
    (m ((c.tc : Thread _ _).loc Cert.KernelIdeal.main_arg1)), IdealRun.result_run m g, ?_⟩
  refine (θ_run Cert.ReferenceIdeal.defs _ _).mono (fun _ h c => ⟨(h c).1.trans ?_, (h c).2⟩) (reference_run m' g')
  rw [(hm c).1, (hm c).2]

theorem claim : Cert.Claim :=
  ⟨Cert.Kernel.Gen.facts, Cert.KernelIdeal.Gen.facts, Cert.ReferenceIdeal.Gen.facts,
    KernelRun.frame, ideal_frame, reference_frame, preserves, algebraic⟩

end Cert.Proof

end
